-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x2048 : Shape := ⟨3, ![4, 8192, 2048]⟩
abbrev S8192x2048 : Shape := ⟨2, ![8192, 2048]⟩
abbrev S1x8192x2048 : Shape := ⟨3, ![1, 8192, 2048]⟩
abbrev S3x256x2048 : Shape := ⟨3, ![3, 256, 2048]⟩
abbrev S3 : Shape := ⟨1, ![3]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩

abbrev nBuf : Table → Nat
  | .hbm => 3
  | .shared => 1
  | _ => 0

abbrev bufTy : (tb : Table) → Fin (nBuf tb) → BufTy
  | .hbm, ⟨0, _⟩ => ⟨S4x8192x2048, .f32⟩
  | .hbm, ⟨1, _⟩ => ⟨S8192x2048, .f32⟩
  | .hbm, ⟨2, _⟩ => ⟨S1x8192x2048, .f32⟩
  | .shared, ⟨0, _⟩ => ⟨S3x256x2048, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_4 : BitVec 32 := 0#32
  ![v1.toNat, 0]
def k0_off2 (i : grid0.Coords) (c0_i32_18 : BitVec 32) : Fin 3 → Nat :=
  let c0_i32_20 : BitVec 32 := 0#32
  let arg0 : BitVec 32 := BitVec.ofNat 32 (i 0).val
  let c4096_i32 : BitVec 32 := 4096#32
  let v0 : BitVec 32 := Scalar.muli arg0 c4096_i32
  let v24 : BitVec 32 := Scalar.addi v0 c0_i32_18
  let c0_i32_22 : BitVec 32 := 0#32
  ![0, v24.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x2048 : Shape := ⟨3, ![4, 8192, 2048]⟩
abbrev S8192x2048 : Shape := ⟨2, ![8192, 2048]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x2048 : Shape := ⟨3, ![1, 8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x2048, .f32⟩
  | .hbm, ⟨23, _⟩ => ⟨S1x8192x2048, .i1⟩
  | .hbm, ⟨24, _⟩ => ⟨S_, .f32⟩
  | .hbm, ⟨25, _⟩ => ⟨S1x8192x2048, .f32⟩
  | .hbm, ⟨26, _⟩ => ⟨S1x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Chunks.lean ====
/-
  The arrays of the row copy, cut as the kernel's transfers cut them.

  The kernel copies the `8192 × 2048` table into the one plane of its `1 × 8192 × 2048` result. SparseCore `c` of the two copies
  the 4096 rows from `4096 c`, in 16 chunks of 256 rows: chunk `r` of SparseCore `c` is block `16 c + r` of the 32 blocks of
  256 rows of either array. This module names the blocks, shows that they are disjoint and cover each array, spells the
  transfers' operands as the program spells them and shows which elements each one names, and shows the value: a chunk of
  the table, carried through a bank and stored to the result, leaves there the elements of `copied`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal

@[expose] public section

noncomputable section

namespace Cert.Proof.RowCopy

open Cert.KernelIdeal Cert.KernelIdeal.Gen
open Idealize.ShloMosaic
open Idealize.ShloMosaic.SparseCore (S V T)
open Idealize.SL Idealize.SL.BI
open scoped Idealize.SL.BI

/-! ## The blocks of 256 rows -/

/-- Chunk `r` of SparseCore `c`: its block among the 32. -/
def block (c : Fin (grid0.bound 0)) (r : Fin 16) : Fin (2 * 16) := finProdFinEquiv ((c : Fin 2), r)

theorem block_val (c : Fin (grid0.bound 0)) (r : Fin 16) : (block c r).val = r.val + 16 * c.val := rfl

theorem tab_inb (b : Fin (2 * 16)) : ∀ a, (![256 * b.val, 0] : Fin 2 → Nat) a + S256x2048.size a ≤ S8192x2048.size a := by
  have := b.isLt; intro a; fin_cases a <;> simp <;> omega

theorem out_inb (b : Fin (2 * 16)) : ∀ a, (![0, 256 * b.val, 0] : Fin 3 → Nat) a + S1x256x2048.size a ≤ S1x8192x2048.size a := by
  have := b.isLt; intro a; fin_cases a <;> simp <;> omega

theorem bank_inb (j : Fin 3) : ∀ a, (![j.val, 0, 0] : Fin 3 → Nat) a + S1x256x2048.size a ≤ S3x256x2048.size a := by
  have := j.isLt; intro a; fin_cases a <;> simp <;> omega

/-- Rows `256 b` up to `256 (b + 1)` of the table; -/
abbrev tabSet (b : Fin (2 * 16)) : Finset S8192x2048.Idx := (Rect.unit (s := S8192x2048) ![256 * b.val, 0] S256x2048.size (tab_inb b)).set
/-- the same rows of the result's plane; -/
abbrev outSet (b : Fin (2 * 16)) : Finset S1x8192x2048.Idx := (Rect.unit (s := S1x8192x2048) ![0, 256 * b.val, 0] S1x256x2048.size (out_inb b)).set
/-- bank `j` of the scratch. -/
abbrev bankSet (j : Fin 3) : Finset S3x256x2048.Idx := (Rect.unit (s := S3x256x2048) ![j.val, 0, 0] S1x256x2048.size (bank_inb j)).set

theorem tab_disjoint (b b' : Fin (2 * 16)) (h : b ≠ b') : Disjoint (tabSet b) (tabSet b') :=
  Ring.lead_disjoint (s := S8192x2048) (0 : Fin 2) 256 (fun b : Fin (2 * 16) => (![256 * b.val, 0] : Fin 2 → Nat)) S256x2048.size tab_inb (fun _ => rfl) rfl b b' h
theorem tab_cover : Finset.univ.biUnion tabSet = Finset.univ :=
  Ring.lead_cover (s := S8192x2048) (0 : Fin 2) 256 (fun b : Fin (2 * 16) => (![256 * b.val, 0] : Fin 2 → Nat)) S256x2048.size tab_inb (fun _ => rfl)
    (fun _ a ha => by fin_cases a <;> first | exact absurd rfl ha | rfl) rfl (fun a ha => by fin_cases a <;> first | exact absurd rfl ha | rfl) rfl
theorem out_disjoint (b b' : Fin (2 * 16)) (h : b ≠ b') : Disjoint (outSet b) (outSet b') :=
  Ring.lead_disjoint (s := S1x8192x2048) (1 : Fin 3) 256 (fun b : Fin (2 * 16) => (![0, 256 * b.val, 0] : Fin 3 → Nat)) S1x256x2048.size out_inb (fun _ => rfl) rfl b b' h
theorem out_cover : Finset.univ.biUnion outSet = Finset.univ :=
  Ring.lead_cover (s := S1x8192x2048) (1 : Fin 3) 256 (fun b : Fin (2 * 16) => (![0, 256 * b.val, 0] : Fin 3 → Nat)) S1x256x2048.size out_inb (fun _ => rfl)
    (fun _ a ha => by fin_cases a <;> first | exact absurd rfl ha | rfl) rfl (fun a ha => by fin_cases a <;> first | exact absurd rfl ha | rfl) rfl
theorem bank_disjoint (j j' : Fin 3) (h : j ≠ j') : Disjoint (bankSet j) (bankSet j') :=
  Ring.lead_disjoint (s := S3x256x2048) (0 : Fin 3) 1 (fun j : Fin 3 => (![j.val, 0, 0] : Fin 3 → Nat)) S1x256x2048.size bank_inb (fun j => by simp) rfl j j' h
theorem bank_cover : Finset.univ.biUnion bankSet = Finset.univ :=
  Ring.lead_cover (s := S3x256x2048) (0 : Fin 3) 1 (fun j : Fin 3 => (![j.val, 0, 0] : Fin 3 → Nat)) S1x256x2048.size bank_inb (fun j => by simp)
    (fun _ a ha => by fin_cases a <;> first | exact absurd rfl ha | rfl) rfl (fun a ha => by fin_cases a <;> first | exact absurd rfl ha | rfl) rfl

/-! ## The transfers' operands, as the program spells them -/

/-- The table, the result and the scratch, as the body's arguments. -/
abbrev tabW : Memref sig .scScalar .hbm S8192x2048 .f32 := Memref.whole main_arg1_scs
abbrev outW : Memref sig .scScalar .hbm S1x8192x2048 .f32 := Memref.whole main_v0_scs
abbrev bankW : Memref sig .scScalar .shared S3x256x2048 .f32 := Memref.whole cc0_scratch0

/-- The 256 rows of the table at word `w` of the SparseCore's half; -/
abbrev tabM (i : grid0.Coords) (w : BitVec 32) (h : ∀ a, k0_off1 i w a + S256x2048.size a ≤ S8192x2048.size a) : Memref sig .scScalar .hbm S256x2048 .f32 :=
  tabW.slice (Rect.unit (s := S8192x2048) (k0_off1 i w) S256x2048.size h) (fun _ => rfl)
/-- the same rows of the result's plane; -/
abbrev outM (i : grid0.Coords) (w : BitVec 32) (h : ∀ a, k0_off2 i w a + S1x256x2048.size a ≤ S1x8192x2048.size a) : Memref sig .scScalar .hbm S256x2048 .f32 :=
  (outW.slice (Rect.unit (s := S1x8192x2048) (k0_off2 i w) S1x256x2048.size h) (fun _ => rfl)).squeeze S256x2048 squeezes_S1x256x2048_S256x2048
/-- the bank at offsets `o` of the scratch. -/
abbrev bankM (o : Fin 3 → Nat) (h : ∀ a, o a + S1x256x2048.size a ≤ S3x256x2048.size a) : Memref sig .scScalar .shared S256x2048 .f32 :=
  (bankW.slice (Rect.unit (s := S3x256x2048) o S1x256x2048.size h) (fun _ => rfl)).squeeze S256x2048 squeezes_S1x256x2048_S256x2048

/-- Rectangles of one size at equal offsets have the same elements. -/
theorem unit_set_congr {s : Shape} {o o' : Fin s.rank → Nat} (e : o = o') (size : Fin s.rank → Nat) (h : ∀ a, o a + size a ≤ s.size a)
    (h' : ∀ a, o' a + size a ≤ s.size a) : (Rect.unit (s := s) o size h).set = (Rect.unit (s := s) o' size h').set := by
  subst e; rfl

section Operands
variable (i : grid0.Coords) (r : Fin 16) {w : BitVec 32} (hw : w = BitVec.ofNat 32 (256 * r.val))
include hw

theorem tab_off : k0_off1 i w = ![256 * (block (i 0) r).val, 0] := by
  rw [hw, k0_off1_eq, block_val, show 4096 * (i 0).val + 256 * r.val = 256 * (r.val + 16 * (i 0).val) by omega]
theorem out_off : k0_off2 i w = ![0, 256 * (block (i 0) r).val, 0] := by
  rw [hw, k0_off2_eq, block_val, show 4096 * (i 0).val + 256 * r.val = 256 * (r.val + 16 * (i 0).val) by omega]

/-- The table's rows at word `256 r` are block `(c, r)`'s, -/
theorem tabM_set (h) : (tabM i w h).view.set = tabSet (block (i 0) r) :=
  (View.set_slice_whole _ _).trans (unit_set_congr (tab_off i r hw) _ _ _)
/-- and the result's are. -/
theorem outM_set (h) : (outM i w h).view.set = outSet (block (i 0) r) :=
  (View.set_reshape _ _).trans ((View.set_slice_whole _ _).trans (unit_set_congr (out_off i r hw) _ _ _))
end Operands

theorem bankM_set (j : Fin 3) (h) : (bankM ![j.val, 0, 0] h).view.set = bankSet j :=
  (View.set_reshape _ _).trans (View.set_slice_whole _ _)

/-! ## The value -/

/-- The table's index under an index of the result: the plane's number dropped. -/
def rowOf (j : S1x8192x2048.Idx) : S8192x2048.Idx := fun
  | ⟨0, _⟩ => j 1
  | ⟨1, _⟩ => j 2

/-- What the result is to hold: the table, as its one plane. -/
def copied {α : Type} (t : S8192x2048.Idx → α) : S1x8192x2048.Idx → α := fun j => t (rowOf j)

/-- Where a chunk's element lies in the result is, the plane's number dropped, where it lies in the table. -/
theorem rowOf_emb (i : grid0.Coords) (r : Fin 16) {w w' : BitVec 32} (hw : w = BitVec.ofNat 32 (256 * r.val)) (hw' : w' = BitVec.ofNat 32 (256 * r.val))
    (h h') (x : S256x2048.Idx) : rowOf ((outM i w h).view.emb x) = (tabM i w' h').view.emb x := by
  have e : (outM i w h).view.emb x
      = (Rect.unit (s := S1x8192x2048) (k0_off2 i w) S1x256x2048.size h).emb (Fin.cons ⟨0, Nat.one_pos⟩ x) :=
    (show _ = (Rect.unit (s := S1x8192x2048) (k0_off2 i w) S1x256x2048.size h).emb (Shape.reshapeEquiv squeezes_S1x256x2048_S256x2048.numel_eq x) from rfl).trans
      (by rw [Shape.reshapeEquiv_cons_one])
  have e' : (tabM i w' h').view.emb x = (Rect.unit (s := S8192x2048) (k0_off1 i w') S256x2048.size h').emb x := rfl
  rw [e, e']
  funext a
  apply Fin.ext
  match a with
  | ⟨0, _⟩ =>
    show k0_off2 i w 1 + 1 * (x 0).val = k0_off1 i w' 0 + 1 * (x 0).val
    rw [out_off i r hw, tab_off i r hw']; rfl
  | ⟨1, _⟩ =>
    show k0_off2 i w 2 + 1 * (x 1).val = k0_off1 i w' 1 + 1 * (x 1).val
    rw [out_off i r hw, tab_off i r hw']; rfl

end Cert.Proof.RowCopy

end
-- ==== Proof.Body.lean ====
/-
  The kernel's body on one SparseCore's sequencer, run once for a SparseCore that stays a variable.

  The body keeps at most three loads and three stores in flight, each on a semaphore of its own that carries one transfer at a
  time: bank `j` is filled on load cell `j` and emptied on store cell `3 + j`. So the run needs no schedule: the sequencer holds
  the 16 chunks of the table, the 16 chunks of the result, the three banks and the six cells apart, and every transfer takes
  the parts it names and its wait brings them back. The value is in the run: a chunk of the result comes back holding
  `copied` of the table.
-/
module

public import proofs.«01_k».proof.Proof.Chunks

@[expose] public section

noncomputable section

namespace Cert.Proof.RowCopy

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The setting: the launch's algebra, and the transfers' counters beside it -/

abbrev UH : Type := URounds (GSem nD τ sig) ℕ
abbrev UU : Type := UH × Counters

local notation "𝕄" => MT nD τ sig (HIx 1) (Elt F) ℕ UU ℕ

abbrev 𝒱₀ : Variants := Variants.none

abbrev tabLoc (d : Dev nD) : Loc nD τ sig := (SparseCore.T d).loc main_arg1
abbrev outLoc (d : Dev nD) : Loc nD τ sig := (SparseCore.T d).loc main_v0
/-- SparseCore `c`'s scratch, its sequencer's own. -/
abbrev bankLoc (d : Dev nD) (c : Fin τ.nSC) : Loc nD τ sig := (S d c).loc cc0_scratch0

/-- The sequencer that runs the body at grid point `i`. -/
abbrev seqAt (d : Dev nD) (i : grid0.Coords) : Thread nD τ := S d ((i 0).castLE hcore0)

/-! ## The chunks, held -/

section Held
variable (d : Dev nD) (i : grid0.Coords)

/-- The 256 rows of the table at word `w`, at contents `t`, in the body's spelling; -/
abbrev tabAt (t : Buf (Elt F) (tabLoc d)) (w : BitVec 32) (h : ∀ a, k0_off1 i w a + S256x2048.size a ≤ S8192x2048.size a) : sProp 𝕄 :=
  (tabM i w h).view.loc (seqAt d i) ↦[(tabM i w h).view.set]{fullShare} t
/-- the same rows of the result at contents `f`; -/
abbrev outAt (f : Buf (Elt F) (outLoc d)) (w : BitVec 32) (h : ∀ a, k0_off2 i w a + S1x256x2048.size a ≤ S1x8192x2048.size a) : sProp 𝕄 :=
  (outM i w h).view.loc (seqAt d i) ↦[(outM i w h).view.set]{fullShare} f
/-- the bank at offsets `o`, at contents `f`. -/
abbrev bankAt (o : Fin 3 → Nat) (h : ∀ a, o a + S1x256x2048.size a ≤ S3x256x2048.size a) (f : Buf (Elt F) (bankLoc d ((i 0).castLE hcore0))) : sProp 𝕄 :=
  (bankM o h).view.loc (seqAt d i) ↦[(bankM o h).view.set]{fullShare} f

theorem tabAt_eq (t : Buf (Elt F) (tabLoc d)) (r : Fin 16) {w : BitVec 32} (hw : w = BitVec.ofNat 32 (256 * r.val)) (h) :
    tabAt d i t w h = (tabLoc d ↦[tabSet (block (i 0) r)]{fullShare} t : sProp 𝕄) := by
  unfold tabAt; rw [tabM_set i r hw]
theorem outAt_eq (f : Buf (Elt F) (outLoc d)) (r : Fin 16) {w : BitVec 32} (hw : w = BitVec.ofNat 32 (256 * r.val)) (h) :
    outAt d i f w h = (outLoc d ↦[outSet (block (i 0) r)]{fullShare} f : sProp 𝕄) := by
  unfold outAt; rw [outM_set i r hw]
theorem bankAt_eq (j : Fin 3) (h) (f : Buf (Elt F) (bankLoc d ((i 0).castLE hcore0))) :
    bankAt d i ![j.val, 0, 0] h f = (bankLoc d ((i 0).castLE hcore0) ↦[bankSet j]{fullShare} f : sProp 𝕄) := by
  unfold bankAt; rw [bankM_set j]

/-- The three banks, each at some contents. -/
abbrev banks : sProp 𝕄 :=
  iprop((∃ f, bankAt d i ![0, 0, 0] inb_S3x256x2048_S1x256x2048_0_0_0 f) ∗ (∃ f, bankAt d i ![1, 0, 0] inb_S3x256x2048_S1x256x2048_1_0_0 f)
    ∗ ∃ f, bankAt d i ![2, 0, 0] inb_S3x256x2048_S1x256x2048_2_0_0 f)

end Held

/-- A sum over the 16 chunks, chunk by chunk. -/
theorem bigSep_chunks (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL (List.finRange 16) (by decide) (by decide)]
  rfl

/-- The table's 16 chunks of grid point `i`, as one sum and one by one; -/
theorem tabs_eq (d : Dev nD) (i : grid0.Coords) (t : Buf (Elt F) (tabLoc d)) :
    (bigSep Finset.univ fun r : Fin 16 => tabAt d i t (BitVec.ofNat 32 (256 * r.val)) (k0_off1_inb i r))
      = (iprop(tabAt d i t 0#32 (k0_off1_inb i 0) ∗ tabAt d i t 256#32 (k0_off1_inb i 1) ∗ tabAt d i t 512#32 (k0_off1_inb i 2) ∗ tabAt d i t 768#32 (k0_off1_inb i 3)
        ∗ tabAt d i t 1024#32 (k0_off1_inb i 4) ∗ tabAt d i t 1280#32 (k0_off1_inb i 5) ∗ tabAt d i t 1536#32 (k0_off1_inb i 6) ∗ tabAt d i t 1792#32 (k0_off1_inb i 7)
        ∗ tabAt d i t 2048#32 (k0_off1_inb i 8) ∗ tabAt d i t 2304#32 (k0_off1_inb i 9) ∗ tabAt d i t 2560#32 (k0_off1_inb i 10) ∗ tabAt d i t 2816#32 (k0_off1_inb i 11)
        ∗ tabAt d i t 3072#32 (k0_off1_inb i 12) ∗ tabAt d i t 3328#32 (k0_off1_inb i 13) ∗ tabAt d i t 3584#32 (k0_off1_inb i 14) ∗ tabAt d i t 3840#32 (k0_off1_inb i 15)) : sProp 𝕄) :=
  bigSep_chunks _
/-- the result's. -/
theorem outs_eq (d : Dev nD) (i : grid0.Coords) (f : Buf (Elt F) (outLoc d)) :
    (bigSep Finset.univ fun r : Fin 16 => outAt d i f (BitVec.ofNat 32 (256 * r.val)) (k0_off2_inb i r))
      = (iprop(outAt d i f 0#32 (k0_off2_inb i 0) ∗ outAt d i f 256#32 (k0_off2_inb i 1) ∗ outAt d i f 512#32 (k0_off2_inb i 2) ∗ outAt d i f 768#32 (k0_off2_inb i 3)
        ∗ outAt d i f 1024#32 (k0_off2_inb i 4) ∗ outAt d i f 1280#32 (k0_off2_inb i 5) ∗ outAt d i f 1536#32 (k0_off2_inb i 6) ∗ outAt d i f 1792#32 (k0_off2_inb i 7)
        ∗ outAt d i f 2048#32 (k0_off2_inb i 8) ∗ outAt d i f 2304#32 (k0_off2_inb i 9) ∗ outAt d i f 2560#32 (k0_off2_inb i 10) ∗ outAt d i f 2816#32 (k0_off2_inb i 11)
        ∗ outAt d i f 3072#32 (k0_off2_inb i 12) ∗ outAt d i f 3328#32 (k0_off2_inb i 13) ∗ outAt d i f 3584#32 (k0_off2_inb i 14) ∗ outAt d i f 3840#32 (k0_off2_inb i 15)) : sProp 𝕄) :=
  bigSep_chunks _

/-! ## The value a transfer leaves -/

/-- A buffer written whole through a view reads, through the view, what was written, whatever was written before. -/
theorem read_written {sig : RefSig} {κ : Kind} {sp : Space} {s : Shape} {e : EltTy} (v : View sig κ sp s e) (f : v.ty.Contents (Elt F))
    (x : s.Idx → Elt F e) (L : List (View.Piece (Elt F) s e)) : v.read (Elt F) (v.writes (Elt F) f (⟨Rect.whole s, x⟩ :: L)) = x := by
  funext y
  have h := View.read_writes_cons_emb v f (Rect.whole s) x L y
  rwa [Rect.emb_whole_apply] at h

/-- A chunk of the result that a store wrote the table's chunk to holds the copied table. -/
theorem outAt_copied (d : Dev nD) (i : grid0.Coords) (r : Fin 16) {w w' : BitVec 32} (hw : w = BitVec.ofNat 32 (256 * r.val))
    (hw' : w' = BitVec.ofNat 32 (256 * r.val)) (h h') (t : Buf (Elt F) (tabLoc d)) (fo : Buf (Elt F) (outLoc d)) {x : S256x2048.Idx → Elt F .f32}
    (hx : x = (tabM i w' h').view.read (Elt F) t) :
    outAt d i ((outM i w h).view.writes (Elt F) fo [⟨Rect.whole S256x2048, x⟩]) w h ⊢ outAt d i (copied t) w h := by
  refine Entails.of_eq (pointsTo_congr fun j hj => ?_)
  obtain ⟨y, -, rfl⟩ := Finset.mem_map.mp hj
  rw [← View.write_univ_eq_writes_whole, View.write_emb_of_mem _ _ (Finset.mem_univ _), hx]
  exact congrArg t (rowOf_emb i r hw hw' h h' y).symm

/-! ## The run -/

section Run
variable [FloatOps F] (d : Dev nD) (i : grid0.Coords)

abbrev cell (k : Nat) (hk : k < 6 := by decide) : DmaSem sig := ⟨k, hk⟩
/-- The six cells the body names, at zero. -/
abbrev cells0 (c : Fin τ.nSC) : sProp 𝕄 :=
  iprop(semVal (S d c, SemLoc.dma (cell 0)) 0 ∗ semVal (S d c, SemLoc.dma (cell 1)) 0 ∗ semVal (S d c, SemLoc.dma (cell 2)) 0
    ∗ semVal (S d c, SemLoc.dma (cell 3)) 0 ∗ semVal (S d c, SemLoc.dma (cell 4)) 0 ∗ semVal (S d c, SemLoc.dma (cell 5)) 0)

/-- The 16 chunks of the table at `t` and the 16 of the result at `f`. -/
abbrev tabs (t : Buf (Elt F) (tabLoc d)) : sProp 𝕄 := bigSep Finset.univ fun r : Fin 16 => tabAt d i t (BitVec.ofNat 32 (256 * r.val)) (k0_off1_inb i r)
abbrev outs (f : Buf (Elt F) (outLoc d)) : sProp 𝕄 := bigSep Finset.univ fun r : Fin 16 => outAt d i f (BitVec.ofNat 32 (256 * r.val)) (k0_off2_inb i r)

theorem body_run (O : CellTallies nD τ sig (HIx 1)) (W : Waits sig (HIx 1)) (t : Buf (Elt F) (tabLoc d)) (fo : Buf (Elt F) (outLoc d)) :
    (iprop(Transfers.MayWaits (seqAt d i) (none : HIx 1) O ∗ tabs d i t ∗ outs d i fo ∗ banks d i ∗ cells0 d ((i 0).castLE hcore0)
        ∗ owes (seqAt d i) O W) : sProp 𝕄)
      ⊢ wp frame (wpE (defs₀ (F := F)) 𝒱₀ (seqAt d i) none) Set.univ
          (cc0__copy_body i tabW (Memref.isWhole_whole _) outW (Memref.isWhole_whole _) bankW (Memref.isWhole_whole _) cc0_scratch1 cc0_scratch2)
          fun _ => iprop(tabs d i t ∗ outs d i (copied t) ∗ banks d i ∗ cells0 d ((i 0).castLE hcore0) ∗ ∃ W', owes (seqAt d i) O W') := by
  unfold tabs outs
  rw [tabs_eq, outs_eq, outs_eq]
  iintro ⟨#Hmw, ⟨T0, T1, T2, T3, T4, T5, T6, T7, T8, T9, T10, T11, T12, T13, T14, T15⟩,
    ⟨O0, O1, O2, O3, O4, O5, O6, O7, O8, O9, O10, O11, O12, O13, O14, O15⟩,
    ⟨⟨%f0, B0⟩, ⟨%f1, B1⟩, ⟨%f2, B2⟩⟩, ⟨C0, C1, C2, C3, C4, C5⟩, HO⟩
  sl_unfold [cc0__copy_body]
  sl_exec
  sl_step
  isplitl [T0 T1 T2 T3 T4 T5 T6 T7 T8 T9 T10 T11 T12 T13 T14 T15]
  · iframe T0 T1 T2 T3 T4 T5 T6 T7 T8 T9 T10 T11 T12 T13 T14 T15
  isplitl [O0 O1 O2 O3 O4 O5 O6 O7 O8 O9 O10 O11 O12 O13 O14 O15]
  · isplitl [O0]; · iapply (outAt_copied d i 0 (w := 0#32) rfl rfl (k0_off2_inb i 0) (k0_off1_inb i 0) t fo ?_) $$ O0; exact read_written _ _ _ _
    isplitl [O1]; · iapply (outAt_copied d i 1 (w := 256#32) rfl rfl (k0_off2_inb i 1) (k0_off1_inb i 1) t fo ?_) $$ O1; exact read_written _ _ _ _
    isplitl [O2]; · iapply (outAt_copied d i 2 (w := 512#32) rfl rfl (k0_off2_inb i 2) (k0_off1_inb i 2) t fo ?_) $$ O2; exact read_written _ _ _ _
    isplitl [O3]; · iapply (outAt_copied d i 3 (w := 768#32) rfl rfl (k0_off2_inb i 3) (k0_off1_inb i 3) t fo ?_) $$ O3; exact read_written _ _ _ _
    isplitl [O4]; · iapply (outAt_copied d i 4 (w := 1024#32) rfl rfl (k0_off2_inb i 4) (k0_off1_inb i 4) t fo ?_) $$ O4; exact read_written _ _ _ _
    isplitl [O5]; · iapply (outAt_copied d i 5 (w := 1280#32) rfl rfl (k0_off2_inb i 5) (k0_off1_inb i 5) t fo ?_) $$ O5; exact read_written _ _ _ _
    isplitl [O6]; · iapply (outAt_copied d i 6 (w := 1536#32) rfl rfl (k0_off2_inb i 6) (k0_off1_inb i 6) t fo ?_) $$ O6; exact read_written _ _ _ _
    isplitl [O7]; · iapply (outAt_copied d i 7 (w := 1792#32) rfl rfl (k0_off2_inb i 7) (k0_off1_inb i 7) t fo ?_) $$ O7; exact read_written _ _ _ _
    isplitl [O8]; · iapply (outAt_copied d i 8 (w := 2048#32) rfl rfl (k0_off2_inb i 8) (k0_off1_inb i 8) t fo ?_) $$ O8; exact read_written _ _ _ _
    isplitl [O9]; · iapply (outAt_copied d i 9 (w := 2304#32) rfl rfl (k0_off2_inb i 9) (k0_off1_inb i 9) t fo ?_) $$ O9; exact read_written _ _ _ _
    isplitl [O10]; · iapply (outAt_copied d i 10 (w := 2560#32) rfl rfl (k0_off2_inb i 10) (k0_off1_inb i 10) t fo ?_) $$ O10; exact read_written _ _ _ _
    isplitl [O11]; · iapply (outAt_copied d i 11 (w := 2816#32) rfl rfl (k0_off2_inb i 11) (k0_off1_inb i 11) t fo ?_) $$ O11; exact read_written _ _ _ _
    isplitl [O12]; · iapply (outAt_copied d i 12 (w := 3072#32) rfl rfl (k0_off2_inb i 12) (k0_off1_inb i 12) t fo ?_) $$ O12; exact read_written _ _ _ _
    isplitl [O13]; · iapply (outAt_copied d i 13 (w := 3328#32) rfl rfl (k0_off2_inb i 13) (k0_off1_inb i 13) t fo ?_) $$ O13; exact read_written _ _ _ _
    isplitl [O14]; · iapply (outAt_copied d i 14 (w := 3584#32) rfl rfl (k0_off2_inb i 14) (k0_off1_inb i 14) t fo ?_) $$ O14; exact read_written _ _ _ _
    iapply (outAt_copied d i 15 (w := 3840#32) rfl rfl (k0_off2_inb i 15) (k0_off1_inb i 15) t fo ?_) $$ O15; exact read_written _ _ _ _
  isplitl [B0 B1 B2]
  · isplitl [B0]; · iexists _; iexact B0
    isplitl [B1]; · iexists _; iexact B1
    iexists _; iexact B2
  isplitl [C0 C1 C2 C3 C4 C5]
  · iframe C0 C1 C2 C3 C4 C5
  iexists _; iexact HO

end Run

end Cert.Proof.RowCopy

end
-- ==== Proof.Launch.lean ====
/-
  The whole program's run: `@main` starts the copy on the two SparseCores' sequencers and waits for both.

  The call hands SparseCore `c` the 16 blocks of the table and the 16 blocks of the result that it is to copy, and takes them
  back with the result's blocks at `copied` of the table. The 32 blocks cover either array (Chunks.lean), so `@main` cuts the
  two arrays before the call and has them whole again after it. The run is stated once, for every float type: the result
  holds the table, both arguments are as they were, every semaphore counter is back at zero.
-/
module

public import proofs.«01_k».proof.Proof.Body

@[expose] public section

noncomputable section

namespace Cert.Proof.RowCopy

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' part of the algebra. -/
abbrev EH : Emb UH (MT nD τ sig (HIx 1) (Elt F) ℕ UU ℕ) := embL

/-! ## The arrays, by SparseCore -/

section Halves
variable (d : Dev nD)

/-- SparseCore `c`'s half of the table at `t`, block by block; -/
abbrev tabHalf (t : Buf (Elt F) (tabLoc d)) (c : Fin (grid0.bound 0)) : sProp 𝕄 := bigSep Finset.univ fun r : Fin 16 => tabLoc d ↦[tabSet (block c r)]{fullShare} t
/-- of the result at `f`. -/
abbrev outHalf (f : Buf (Elt F) (outLoc d)) (c : Fin (grid0.bound 0)) : sProp 𝕄 := bigSep Finset.univ fun r : Fin 16 => outLoc d ↦[outSet (block c r)]{fullShare} f

/-- An array cut into 32 blocks that are disjoint and cover it, the blocks dealt 16 to a SparseCore. -/
theorem halves {ℓ : Loc nD τ sig} (J : Fin (2 * 16) → Finset (Idx ℓ)) (hd : ∀ b b', b ≠ b' → Disjoint (J b) (J b'))
    (hc : Finset.univ.biUnion J = Finset.univ) (f : Buf (Elt F) ℓ) :
    (ℓ ↦{fullShare} f : sProp 𝕄)
      = bigSep Finset.univ fun c : Fin (grid0.bound 0) => bigSep Finset.univ fun r : Fin 16 => ℓ ↦[J (block c r)]{fullShare} f := by
  have e : (ℓ ↦{fullShare} f : sProp 𝕄) = bigSep Finset.univ fun b => ℓ ↦[J b]{fullShare} f := by
    rw [← pointsTo_biUnion Finset.univ J (fun b _ b' _ h => hd b b' h), hc]
  rw [e, bigSep_univ_equiv (finProdFinEquiv (m := 2) (n := 16)), bigSep_univ_prod]
  rfl

/-- The table and the result whole are the two SparseCores' halves of them. -/
theorem whole_eq (t : Buf (Elt F) (tabLoc d)) (f : Buf (Elt F) (outLoc d)) :
    (iprop((tabLoc d ↦{fullShare} t) ∗ outLoc d ↦{fullShare} f) : sProp 𝕄)
      = bigSep Finset.univ fun c : Fin (grid0.bound 0) => iprop(tabHalf d t c ∗ outHalf d f c) := by
  rw [bigSep_sep', halves (ℓ := tabLoc d) tabSet tab_disjoint tab_cover t, halves (ℓ := outLoc d) outSet out_disjoint out_cover f]

/-- A half in the body's spelling. -/
theorem tabs_half (i : grid0.Coords) (t : Buf (Elt F) (tabLoc d)) : (tabs d i t : sProp 𝕄) = tabHalf d t (i 0) :=
  bigSep_congr fun r _ => tabAt_eq d i t r rfl _
theorem outs_half (i : grid0.Coords) (f : Buf (Elt F) (outLoc d)) : (outs d i f : sProp 𝕄) = outHalf d f (i 0) :=
  bigSep_congr fun r _ => outAt_eq d i f r rfl _

end Halves

/-! ## A sequencer's own cells and scratch -/

section Own
variable (d : Dev nD)

theorem bigSep_cells (Φ : Fin 6 → sProp 𝕄) : bigSep Finset.univ Φ = iprop(Φ 0 ∗ Φ 1 ∗ Φ 2 ∗ Φ 3 ∗ Φ 4 ∗ Φ 5) := by
  rw [bigSep_univ_eq_bigSepL (List.finRange 6) (by decide) (by decide)]
  rfl

/-- The body's cell `k` on SparseCore `c`. -/
abbrev cellAt (c : Fin τ.nSC) (k : Fin 6) : GSem nD τ sig := (S d c, .dma (cell k.val k.isLt))

/-- The sequencer's cells at zero are the body's six and the rest. -/
theorem ownSems0_S (c : Fin τ.nSC) :
    (ownSems0 (S d c) : sProp 𝕄) = iprop(cells0 d c ∗ bigSep (ownCells (S d c) \ Finset.univ.image (cellAt d c)) fun g => semVal g 0) := by
  unfold SparseCore.Cfg.ownSems0
  rw [SparseCore.bigSep_sdiff_split' (t := Finset.univ.image (cellAt d c))
      (Finset.image_subset_iff.mpr fun k _ => mem_ownCells.mpr ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq, Fin.mk.injEq] at this; exact Fin.ext this), bigSep_cells]
  rfl

/-- The sequencer's buffers are its scratch at some contents and the rest. -/
theorem ownBufs_S (c : Fin τ.nSC) :
    (ownBufs (S d c) : sProp 𝕄)
      = iprop((∃ f, bankLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The scratch whole, at anything, is the three banks. -/
theorem banks_eq (i : grid0.Coords) : (iprop(∃ f, bankLoc d ((i 0).castLE hcore0) ↦{fullShare} f) : sProp 𝕄) = banks d i :=
  have e0 (f) := bankAt_eq (F := F) d i 0 inb_S3x256x2048_S1x256x2048_0_0_0 f
  have e1 (f) := bankAt_eq (F := F) d i 1 inb_S3x256x2048_S1x256x2048_1_0_0 f
  have e2 (f) := bankAt_eq (F := F) d i 2 inb_S3x256x2048_S1x256x2048_2_0_0 f
  equiv_iff.mp ⟨Ring.slots3_split (U := UU) (ℓ := bankLoc d ((i 0).castLE hcore0)) (q := fullShare) bankSet bank_disjoint bank_cover _ _ _ e0 e1 e2,
    Ring.slots3_join (U := UU) (ℓ := bankLoc d ((i 0).castLE hcore0)) (q := fullShare) bankSet bank_disjoint bank_cover _ _ _ e0 e1 e2⟩

end Own

/-! ## What the call hands over, and the sequencers' obligation -/

variable (m : (ℓ : Loc nD τ sig) → Buf (Elt F) ℓ) (ρ : Dev nD → PrngReg) [FloatOps F]

/-- SparseCore `c` is handed its halves of the table and of the result as they are at the launch, and hands them back with
    the result's at the table. -/
def P : (K (F := F)).Pay (nD := nD) (Val := Elt F) (Name := ℕ) (U := UU) where
  st := fun | 0 => fun d c => iprop(tabHalf d (m (tabLoc d)) c ∗ outHalf d (m (outLoc d)) c)
  dn := fun | 0 => fun d c => iprop(tabHalf d (m (tabLoc d)) c ∗ outHalf d (copied (m (tabLoc d))) c)
  go := fun _ _ _ _ => iprop(emp)
  td := fun _ _ _ _ => iprop(emp)
  x := fun _ _ => iprop(emp)

instance P_storable : (P (F := F) m).IsStorable where
  st q d c := match q with | 0 => by unfold P; infer_instance
  dn q d c := match q with | 0 => by unfold P; infer_instance
  go _ _ _ _ := by unfold P; infer_instance
  td _ _ _ _ := by unfold P; infer_instance

/-- The grid point that SparseCore `c` runs. -/
def coordsS (c : Fin (grid0.bound 0)) : grid0.Coords := fun | 0 => c | ⟨_ + 1, h⟩ => absurd h (Nat.not_lt.2 (Nat.le_add_left _ _))

/-- The body on the sequencer of grid point `i`, from what the launch gives it to what the launch takes back. -/
theorem body_task (d : Dev nD) (i : grid0.Coords) (O : CellTallies nD τ sig (HIx 1)) (W : Waits sig (HIx 1)) (hO : ∀ g, O g none = 0) :
    iprop(levAts (K (F := F)).L (K (F := F)).lev ∗ emp ∗ (tabHalf d (m (tabLoc d)) (i 0) ∗ outHalf d (m (outLoc d)) (i 0))
        ∗ scopedBufs (seqAt d i) ∗ scopedSems0 (seqAt d i) ∗ owes (seqAt d i) O W)
      ⊢ wp frame (wpE (defs₀ (F := F)) 𝒱₀ (seqAt d i) none) Set.univ
          (cc0__copy_body i tabW (Memref.isWhole_whole _) outW (Memref.isWhole_whole _) bankW (Memref.isWhole_whole _) cc0_scratch1 cc0_scratch2)
          fun _ => iprop((tabHalf d (m (tabLoc d)) (i 0) ∗ outHalf d (copied (m (tabLoc d))) (i 0)) ∗ scopedBufs (seqAt d i) ∗ scopedSems0 (seqAt d i)
            ∗ ∃ W', ⌜∀ p ∈ W', p ∈ W ∨ p.2 = none ∨ p.2 = some (0 : Fin 1)⌝ ∗ owes (seqAt d i) O W') := by
  rw [(K (F := F)).scopedBufs_S facts d _, SparseCore.Cfg.scopedSems0_S (Val := Elt F) d _, ownSems0_S, ownBufs_S, banks_eq,
    ← tabs_half, ← outs_half, ← outs_half]
  iintro ⟨#Hlv, -, ⟨HT, HR⟩, ⟨⟨HB, Hbufs⟩, Htiles⟩, ⟨⟨HC, Hsems⟩, HtileSems⟩, HO⟩
  ihave Hmw := ((K (F := F)).mayWaits_none (thr := seqAt d i) hO) $$ Hlv
  iapply (wp_wand_r Idealize.ShloMosaic.frame (wpE (defs₀ (F := F)) 𝒱₀ (seqAt d i) none) Set.univ)
  isplitl [HT HR HB HC HO]
  · iapply (body_run d i O W _ _)
    iframe Hmw HT HR HB HC HO
  iintro %_ ⟨HT, HR, HB, HC, %W', HO⟩
  isplitl [HT HR]; · iframe HT HR
  isplitl [HB Hbufs Htiles]; · iframe HB Hbufs Htiles
  isplitl [HC Hsems HtileSems]; · iframe HC Hsems HtileSems
  iexists W'; isplitr
  · ipureintro; intro p _
    rcases p.2 with _ | q
    · exact .inr (.inl rfl)
    · exact .inr (.inr (congrArg some (Subsingleton.elim q 0)))
  iexact HO

theorem defs₀_scalar (c : Fin τ.nSC) :
    defs₀ (F := F) (.scScalar c) 0 ()
      = SparseCore.onCore hcore0 (fun c => cc0__copy_body (coordsS c) tabW (Memref.isWhole_whole _) outW (Memref.isWhole_whole _)
          bankW (Memref.isWhole_whole _) cc0_scratch1 cc0_scratch2) ⟨⟩ c := rfl

/-- The call's obligation, at whichever SparseCore. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_task m d (coordsS ⟨_, hc⟩) O W hO

/-! ## The launch element: the handshakes alone -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = iprop(emp) :=
    (bigSep_congr fun _ _ => bigSep_emp_const _).trans (bigSep_emp_const _)
  rw [e, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## `@main` on the TensorCore -/

/-- The argument the kernel does not read. -/
abbrev argLoc (d : Dev nD) : Loc nD τ sig := (SparseCore.T d).loc main_arg0

theorem unscopedBufs_eq (d : Dev nD) (W : (b : Ref sig .tc) → Buf (Elt F) ((d.tc : Thread nD τ).loc b)) :
    (unscopedBufs d W : sProp 𝕄) = iprop((argLoc d ↦{fullShare} W main_arg0) ∗ (tabLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What `@main` ends with: the arguments as they were, the result at the table. -/
abbrev FIN (d : Dev nD) : sProp 𝕄 :=
  iprop((argLoc d ↦{fullShare} m (argLoc d)) ∗ (tabLoc d ↦{fullShare} m (tabLoc d)) ∗ outLoc d ↦{fullShare} copied (m (tabLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c)
      = iprop((tabLoc d ↦{fullShare} m (tabLoc d)) ∗ outLoc d ↦{fullShare} m (outLoc d)) := (whole_eq d _ _).symm
  have hdn : (bigSep Finset.univ fun c : Fin ((K (F := F)).nCore 0) => (P m).dn 0 d c)
      = iprop((tabLoc d ↦{fullShare} m (tabLoc d)) ∗ outLoc d ↦{fullShare} copied (m (tabLoc d))) := (whole_eq d _ _).symm
  unfold SparseCore.Cfg.tcRes SparseCore.Cfg.tcEnd
  rw [unscopedBufs_eq]
  simp only [main, wp_bind, wp_pure]
  iintro ⟨#Hctx, Hst, ⟨Hb, ⟨HA, HT, HR⟩, Hts, -⟩, -⟩
  iapply ((K (F := F)).wp_run (D (F := F)) 𝒱 (EH := EH) (P := P m) κ d 0) $$ [Hst HA HT HR Hb Hts]
  isplitr; · iexact Hctx
  isplitl [Hst]; · iexact Hst
  isplitl [HT HR]
  · rw [hst]; iframe HT HR
  iintro ⟨Hst, Hdn⟩
  ihave Hdn' := (Entails.of_eq hdn) $$ Hdn
  icases Hdn' with ⟨HT, HR⟩
  imodintro
  isplitl [Hst]; · iexact Hst
  isplitr [Hb Hts]
  · iframe HA HT HR
  iframe Hb Hts

def fq (d : Dev nD) (s' : Phys nD τ sig (Elt F)) : Prop :=
  s'.mem.mem (outLoc d) = copied (m (tabLoc d)) ∧ s'.mem.mem (argLoc d) = m (argLoc d) ∧ s'.mem.mem (tabLoc d) = m (tabLoc d)

/-- An array held whole at `f` is `f` in memory, and is still held. -/
theorem whole_agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun j => h j (Finset.mem_univ j)
  iexact HSI

theorem hfin (d : Dev nD) (s' : Phys nD τ sig (Elt F)) : iprop(FIN m d ∗ SI s') ⊢ (⌜fq m d s'⌝ : sProp 𝕄) := by
  iintro ⟨⟨HA, HT, HR⟩, HSI⟩
  ihave H := (whole_agree _ s') $$ [HA HSI]
  · iframe HA HSI
  icases H with ⟨%hA, HSI⟩
  ihave H := (whole_agree _ s') $$ [HT HSI]
  · iframe HT HSI
  icases H with ⟨%hT, HSI⟩
  ihave H := (whole_agree _ s') $$ [HR HSI]
  · iframe HR HSI
  icases H with ⟨%hR, -⟩
  ipureintro; exact ⟨hR, hA, hT⟩

/-! ## The program's run -/

/-- The result is the table, the arguments are unchanged, every counter is zero. -/
def QC : PUnit × MemSt nD τ sig (Elt F) → Prop := fun r =>
  (∀ c : Dev nD, r.2.mem (outLoc c) = copied (m (tabLoc c)) ∧ r.2.mem (argLoc c) = m (argLoc c) ∧ r.2.mem (tabLoc c) = m (tabLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.RowCopy

end
-- ==== Proof.RefValue.lean ====
/-
  The value of the reference program: the rows that a `take` reads at `0, 1, …, 8191` are the table.

  The reference wraps a negative row number, checks each number against the table's range, gathers the rows and puts a
  NaN where the check fails. The numbers here are an iota's, so none is negative and none is out of range: the wrap
  changes nothing, the check holds everywhere, and the gather, which clamps a row number into the range, clamps none.
-/
module

public import proofs.«01_k».proof.Proof.Chunks
public import Idealize.ShloMosaic.Lib.ReduceAll
public import Idealize.ShloMosaic.Lib.ValueIdxCore
public import Idealize.ShloMosaic.Lib.WordCmp

@[expose] public section

noncomputable section

namespace Cert.Proof.RefValue

open Idealize.ShloMosaic Idealize.ShloMosaic.ValueIdx
open Cert.Proof.RowCopy (copied rowOf)

/-! ## The reference's shapes -/

abbrev S0 : Shape := ⟨0, ![]⟩
abbrev SN : Shape := ⟨1, ![8192]⟩
abbrev S1N : Shape := ⟨2, ![1, 8192]⟩
abbrev S1N1 : Shape := ⟨3, ![1, 8192, 1]⟩
abbrev STab : Shape := ⟨2, ![8192, 2048]⟩
abbrev SOut : Shape := ⟨3, ![1, 8192, 2048]⟩
abbrev SU : Shape := ⟨1, ![1]⟩
abbrev SU3 : Shape := ⟨3, ![1, 1, 1]⟩

/-- The gather's dimension numbers: one row of the table, whole, for each row number. -/
abbrev rowDims (wf : GatherDims.WF STab S1N1 SOut [2] [0] [] [0] [] 2 ![1, 2048]) : GatherDims STab S1N1 SOut where
  offsetDims := [2]
  collapsedSliceDims := [0]
  operandBatchingDims := []
  startIndicesBatchingDims := []
  startIndexMap := [0]
  indexVectorDim := 2
  sliceSizes := ![1, 2048]
  wf := wf

/-! ## Row numbers as words -/

theorem row_toInt {n : Nat} (h : n < 8192) : (BitVec.ofNat 32 n).toInt = n := by
  rw [BitVec.toInt_eq_toNat_of_lt (by rw [BitVec.toNat_ofNat]; omega), BitVec.toNat_ofNat]; omega

/-- A row number that is not negative is kept by the wrap. -/
theorem wrap_row {n : Nat} (h : n < 8192) (b : BitVec 32) :
    Scalar.select (IntOp.cmpi .slt (BitVec.ofNat 32 n) 0#32) b (BitVec.ofNat 32 n) = BitVec.ofNat 32 n := by
  have e : IntOp.cmpi .slt (BitVec.ofNat 32 n) 0#32 = 0#1 := eq_zero_of_ne_one fun e => by
    have := IntOp.cmpi_slt.1 e
    rw [row_toInt h] at this
    simp at this; omega
  rw [e, select_zero]

/-! ## The row numbers, the check and the gather -/

section Take
variable (b1 : SN.BroadcastsInDim S1N (![1] : Fin 1 → Fin S1N.rank)) (b2 : S0.BroadcastsInDim S1N (![] : Fin 0 → Fin S1N.rank))
  (b3 : S1N.BroadcastsInDim S1N1 (![0, 1] : Fin 2 → Fin S1N1.rank)) (b4 : S0.BroadcastsInDim S1N1 (![] : Fin 0 → Fin S1N1.rank))
  (b5 : SU.BroadcastsInDim SU3 (![2] : Fin 1 → Fin SU3.rank)) (b6 : SU3.BroadcastsInDim S1N1 (![0, 1, 2] : Fin 3 → Fin S1N1.rank))
  (b7 : S1N.BroadcastsInDim SOut (![0, 1] : Fin 2 → Fin SOut.rank)) (hred : S1N1.ReducesTo [2] S1N) (h0 : 0 < S0.numel)
  (wf : GatherDims.WF STab S1N1 SOut [2] [0] [] [0] [] 2 ![1, 2048])

/-- The row numbers the reference gathers at, after the wrap. -/
abbrev rowIdx : IVec S1N1 32 :=
  broadcastInDim S1N1 ![0, 1] b3 (select (cmpi .slt (broadcastInDim S1N ![1] b1 (iotaInDim SN 32 0)) (broadcastInDim S1N ![] b2 (constantI S0 32 0#32)))
    (addi (broadcastInDim S1N ![1] b1 (iotaInDim SN 32 0)) (broadcastInDim S1N ![] b2 (constantI S0 32 8192#32)))
    (broadcastInDim S1N ![1] b1 (iotaInDim SN 32 0)))

/-- Number `j` is `j`. -/
theorem rowIdx_apply (j : S1N1.Idx) : rowIdx b1 b2 b3 j = BitVec.ofNat 32 (j 1).val := by
  exact wrap_row (j 1).isLt _

/-- The check holds at every row. -/
theorem check_apply (I : IVec S1N1 32) (hI : ∀ j, I j = BitVec.ofNat 32 (j 1).val) (k : S1N.Idx) :
    Host.reduce IntOp.andi (andi (cmpi .sge I (broadcastInDim S1N1 ![] b4 (constantI S0 32 0#32)))
      (cmpi .sle I (broadcastInDim S1N1 ![0, 1, 2] b6 (broadcastInDim SU3 ![2] b5 (constantI SU 32 8191#32))))) (constantI S0 1 1#1) hred h0 k = 1#1 := by
  refine Host.reduce_andi_one _ _ _ _ k rfl fun j => ?_
  have hj : (j 1).val < 8192 := (j 1).isLt
  show IntOp.andi (IntOp.cmpi .sge (I j) 0#32) (IntOp.cmpi .sle (I j) 8191#32) = 1#1
  rw [hI j, IntOp.cmpi_sge.2 (by rw [row_toInt hj]; simp), IntOp.cmpi_sle.2 (by rw [row_toInt hj]; simp; omega)]
  rfl

/-- The gather reads row `j 1` of the table at the result's index `j`. -/
theorem gather_rows {α : Type} (t : STab.Idx → α) (I : IVec S1N1 32) (hI : ∀ j, I j = BitVec.ofNat 32 (j 1).val) :
    Host.gather (rowDims wf) t I = copied t := by
  funext j
  unfold Host.gather copied
  congr 1
  funext a
  refine Fin.ext ?_
  show (rowDims wf).start j I a + (rowDims wf).batchCoord j a + (rowDims wf).offCoord j a = _
  rw [GatherDims.batchCoord_eq_zero _ _ _ List.not_mem_nil]
  have ha : a = 0 ∨ a = 1 := by
    match a with
    | ⟨0, _⟩ => exact .inl rfl
    | ⟨1, _⟩ => exact .inr rfl
  rcases ha with rfl | rfl
  · have h0 : (0 : Fin 2) ∈ (rowDims wf).startIndexMap := List.mem_singleton.mpr rfl
    rw [GatherDims.offCoord_eq_zero _ _ _ (fun h => ((GatherDims.mem_sKept _ _).mp h).1 (List.mem_singleton.mpr rfl))]
    unfold GatherDims.start
    rw [dif_pos h0]
    have hj : (j 1).val < 8192 := (j 1).isLt
    have hs : (I ((rowDims wf).siIdx j ⟨List.idxOf (0 : Fin 2) (rowDims wf).startIndexMap, List.idxOf_lt_length_iff.2 h0⟩)).toInt.toNat = (j 1).val := by
      rw [hI]
      show (BitVec.ofNat 32 (j 1).val).toInt.toNat = (j 1).val
      rw [row_toInt hj, Int.toNat_natCast]
    show min (I _).toInt.toNat (8192 - 1) + 0 + 0 = (j 1).val
    rw [hs]; omega
  · rw [show (rowDims wf).start j I 1 = 0 from dif_neg fun h => absurd (List.mem_singleton.mp h) (by decide)]
    show 0 + 0 + (j 2).val = (j 2).val
    omega

/-- The reference's value is the table. -/
theorem take_eq {α : Type} (t : STab.Idx → α) (nan : SOut.Idx → α) :
    select (broadcastInDim SOut ![0, 1] b7 (Host.reduce IntOp.andi (andi (cmpi .sge (rowIdx b1 b2 b3) (broadcastInDim S1N1 ![] b4 (constantI S0 32 0#32)))
        (cmpi .sle (rowIdx b1 b2 b3) (broadcastInDim S1N1 ![0, 1, 2] b6 (broadcastInDim SU3 ![2] b5 (constantI SU 32 8191#32))))) (constantI S0 1 1#1) hred h0))
      (Host.gather (rowDims wf) t (rowIdx b1 b2 b3)) nan = copied t := by
  have hI := rowIdx_apply b1 b2 b3
  rw [gather_rows wf t _ hI]
  funext j
  exact (congrArg (fun c => Scalar.select c (copied t j) (nan j)) (check_apply b4 b5 b6 hred h0 _ hI _)).trans (select_one _ _)

end Take

end Cert.Proof.RefValue

end
-- ==== Proof.lean ====
/-
  The certificate's claims, from two runs.

  `RowCopy.run_main` (Proof/Launch.lean) is the kernel's run for every float type: the result holds the table, the arguments
  are unchanged, every semaphore counter ends at zero. Both of the kernel's frames are that run with the value dropped. The
  reference's run leaves the rows that its `take` reads, and those are the table (Proof/RefValue.lean), for every float
  type too. So the two programs end with the same array at either float type, which is `algebraic` at the ideal one and
  `bitexact` at the machine's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.RefValue
public import Idealize.ShloMosaic.Lib.Quiescent

@[expose] public section

noncomputable section

namespace Cert.Proof

open Idealize.ShloMosaic Idealize.ShloMosaic.TcCoe Idealize.SL.Sem
open Cert.Proof.RowCopy (copied run_main)

attribute [local instance] Cert.Kernel.Gen.facts Cert.KernelIdeal.Gen.facts Cert.ReferenceIdeal.Gen.facts Cert.Reference.Gen.facts

/-! ## The references' runs, at the table -/

theorem run_referenceIdeal {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v2)
            = copied (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans (RefValue.take_eq _ _ _ _ _ _ _ _ _ _ _ _), (h c).2⟩) (Cert.ReferenceIdeal.Value.run m ρ)

theorem run_reference {F : FTy → Type} [FloatOps F] (m : (ℓ : Loc Cert.Reference.nD Cert.Reference.τ Cert.Reference.sig) → Buf (Elt F) ℓ)
    (ρ : Dev Cert.Reference.nD → PrngReg) :
    θ_run Cert.Reference.defs (onTc (τ := Cert.Reference.τ) (Cert.Reference.main (F := F))) ⟨m, fun _ => 0, ρ⟩ fun r =>
      ∀ c : Dev Cert.Reference.nD,
        r.2.mem ((c.tc : Thread Cert.Reference.nD Cert.Reference.τ).loc Cert.Reference.main_v2)
            = copied (m ((c.tc : Thread Cert.Reference.nD Cert.Reference.τ).loc Cert.Reference.main_arg1))
          ∧ r.2.mem ((c.tc : Thread Cert.Reference.nD Cert.Reference.τ).loc Cert.Reference.main_arg0) = m ((c.tc : Thread Cert.Reference.nD Cert.Reference.τ).loc Cert.Reference.main_arg0)
          ∧ r.2.mem ((c.tc : Thread Cert.Reference.nD Cert.Reference.τ).loc Cert.Reference.main_arg1) = m ((c.tc : Thread Cert.Reference.nD Cert.Reference.τ).loc Cert.Reference.main_arg1) :=
  run_referenceIdeal m ρ

/-! ## The frames -/

theorem frame_kernelIdeal : Cert.quiescent_KernelIdeal := fun m ρ _ =>
  (θ_run Cert.KernelIdeal.defs _ _).mono (fun _ h => ⟨fun c => (h.1 c).2, h.2⟩) (run_main (F := Ideal) m ρ)

theorem frame_kernel : Cert.quiescent_Kernel := fun m ρ _ =>
  (θ_run Cert.KernelIdeal.defs _ _).mono (fun _ h => ⟨fun c => (h.1 c).2, h.2⟩) (run_main (F := Bits) m ρ)

/-- The reference declares no semaphore, so its counters are zero. -/
theorem frame_referenceIdeal : Cert.quiescent_ReferenceIdeal := fun m ρ _ =>
  (θ_run Cert.ReferenceIdeal.defs _ _).mono (fun r h => ⟨fun c => (h c).2, sem_eq_zero_of_no_sems (by decide) r.2⟩) (run_referenceIdeal (F := Ideal) m ρ)

theorem frame_reference : Cert.quiescent_Reference := fun m ρ _ =>
  (θ_run Cert.Reference.defs _ _).mono (fun r h => ⟨fun c => (h c).2, sem_eq_zero_of_no_sems (by decide) r.2⟩) (run_reference (F := Bits) m ρ)

/-! ## The values -/

theorem algebraic : Cert.algebraic_KernelIdeal_ReferenceIdeal := fun m ρ m' ρ' _ hagree =>
  ⟨fun c => copied (m ((c.tc : Thread Cert.KernelIdeal.nD Cert.KernelIdeal.τ).loc Cert.KernelIdeal.main_arg1)),
    (θ_run Cert.KernelIdeal.defs _ _).mono (fun _ h => h.1) (run_main (F := Ideal) m ρ),
    (θ_run Cert.ReferenceIdeal.defs _ _).mono (fun _ h c => ⟨(h c).1.trans (congrArg copied (hagree c).2), (h c).2⟩) (run_referenceIdeal (F := Ideal) m' ρ')⟩

theorem bitexact : Cert.bitexact_Kernel_Reference := fun m ρ m' ρ' _ hagree =>
  ⟨fun c => copied (m ((c.tc : Thread Cert.Kernel.nD Cert.Kernel.τ).loc Cert.Kernel.main_arg1)),
    (θ_run Cert.KernelIdeal.defs _ _).mono (fun _ h => h.1) (run_main (F := Bits) m ρ),
    (θ_run Cert.Reference.defs _ _).mono (fun _ h c => ⟨(h c).1.trans (congrArg copied (hagree c).2), (h c).2⟩) (run_reference (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
